-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x32x64x64x64 : Shape := ⟨5, ![8, 32, 64, 64, 64]⟩
abbrev S_ : Shape := ⟨0, ![]⟩

class Facts : Prop where
  bcast_S_S8x32x64x64x64 : S_.BroadcastsInDim S8x32x64x64x64 (![] : Fin 0 → Fin S8x32x64x64x64.rank)

variable [Facts]

def fn {F : FTy → Type} [FloatOps F] (main_arg0 : FVec F S8x32x64x64x64 .f32) : IVec S8x32x64x64x64 1 :=
  let main_cst : FVec F S_ .f32 := constant S_ .f32 0xFF800000#32
  let main_v0 : FVec F S8x32x64x64x64 .f32 := broadcastInDim S8x32x64x64x64 ![] bcast_S_S8x32x64x64x64 main_cst
  let main_v1 : IVec S8x32x64x64x64 1 := cmpf .ogt main_arg0 main_v0
  let main_cst_0 : FVec F S_ .f32 := constant S_ .f32 0x7F800000#32
  let main_v2 : FVec F S8x32x64x64x64 .f32 := broadcastInDim S8x32x64x64x64 ![] bcast_S_S8x32x64x64x64 main_cst_0
  let main_v3 : IVec S8x32x64x64x64 1 := cmpf .olt main_arg0 main_v2
  let main_v4 : IVec S8x32x64x64x64 1 := andi main_v1 main_v3
  main_v4
-- ==== Kernel.lean ====
abbrev S8x32x64x64x64 : Shape := ⟨5, ![8, 32, 64, 64, 64]⟩
abbrev S256x64x64x64 : Shape := ⟨4, ![256, 64, 64, 64]⟩
abbrev S32 : Shape := ⟨1, ![32]⟩
abbrev S32x1 : Shape := ⟨2, ![32, 1]⟩
abbrev S_ : Shape := ⟨0, ![]⟩
abbrev S1x32 : Shape := ⟨2, ![1, 32]⟩
abbrev S32x32 : Shape := ⟨2, ![32, 32]⟩
abbrev S32x32x1 : Shape := ⟨3, ![32, 32, 1]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S32x64 : Shape := ⟨2, ![32, 64]⟩
abbrev S32x1x64 : Shape := ⟨3, ![32, 1, 64]⟩
abbrev S32x32x64 : Shape := ⟨3, ![32, 32, 64]⟩
abbrev S256x32x32x32 : Shape := ⟨4, ![256, 32, 32, 32]⟩
abbrev S8x64x64x64 : Shape := ⟨4, ![8, 64, 64, 64]⟩
abbrev S8x32x32x32 : Shape := ⟨4, ![8, 32, 32, 32]⟩
abbrev S1x64x64x64 : Shape := ⟨4, ![1, 64, 64, 64]⟩
abbrev S64x64x64 : Shape := ⟨3, ![64, 64, 64]⟩
abbrev S4096x64 : Shape := ⟨2, ![4096, 64]⟩
abbrev S4096x32 : Shape := ⟨2, ![4096, 32]⟩
abbrev S64x32 : Shape := ⟨2, ![64, 32]⟩
abbrev S2048x32 : Shape := ⟨2, ![2048, 32]⟩
abbrev S64x32x32 : Shape := ⟨3, ![64, 32, 32]⟩
abbrev S32x32x32 : Shape := ⟨3, ![32, 32, 32]⟩
abbrev S1x32x32x32 : Shape := ⟨4, ![1, 32, 32, 32]⟩
abbrev S8x32x32x32x32 : Shape := ⟨5, ![8, 32, 32, 32, 32]⟩

abbrev nBuf : Space → Nat
  | .hbm => 76
  | .vmem => 5
  | .smem => 0
  | _ => 0

abbrev bufTy : (tb : Table) → Fin (tcTables nBuf tb) → BufTy
  | .hbm, ⟨0, _⟩ => ⟨S8x32x64x64x64, .f32⟩
  | .hbm, ⟨1, _⟩ => ⟨S256x64x64x64, .f32⟩
  | .hbm, ⟨2, _⟩ => ⟨S32, .f32⟩
  | .hbm, ⟨3, _⟩ => ⟨S32, .f32⟩
  | .hbm, ⟨4, _⟩ => ⟨S32x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S1x32, .f32⟩
  | .hbm, ⟨14, _⟩ => ⟨S32x32, .f32⟩
  | .hbm, ⟨15, _⟩ => ⟨S32x32, .f32⟩
  | .hbm, ⟨16, _⟩ => ⟨S32x32, .f32⟩
  | .hbm, ⟨17, _⟩ => ⟨S_, .f32⟩
  | .hbm, ⟨18, _⟩ => ⟨S32x32, .f32⟩
  | .hbm, ⟨19, _⟩ => ⟨S32x32, .f32⟩
  | .hbm, ⟨20, _⟩ => ⟨S32x32, .f32⟩
  | .hbm, ⟨21, _⟩ => ⟨S_, .f32⟩
  | .hbm, ⟨22, _⟩ => ⟨S32x1, .f32⟩
  | .hbm, ⟨23, _⟩ => ⟨S32x1, .i1⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S32x1, .f32⟩
  | .hbm, ⟨29, _⟩ => ⟨S32x1, .f32⟩
  | .hbm, ⟨30, _⟩ => ⟨S32x1, .f32⟩
  | .hbm, ⟨31, _⟩ => ⟨S32x1, .f32⟩
  | .hbm, ⟨32, _⟩ => ⟨S32x32, .f32⟩
  | .hbm, ⟨33, _⟩ => ⟨S32x32, .f32⟩
  | .hbm, ⟨34, _⟩ => ⟨S32x32x1, .f32⟩
  | .hbm, ⟨35, _⟩ => ⟨S64, .f32⟩
  | .hbm, ⟨36, _⟩ => ⟨S64, .f32⟩
  | .hbm, ⟨37, _⟩ => ⟨S64x1, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S1x64, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S_, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S_, .f32⟩
  | .hbm, ⟨55, _⟩ => ⟨S64x1, .f32⟩
  | .hbm, ⟨56, _⟩ => ⟨S64x1, .i1⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S64x1, .f32⟩
  | .hbm, ⟨62, _⟩ => ⟨S64x1, .f32⟩
  | .hbm, ⟨63, _⟩ => ⟨S64x1, .f32⟩
  | .hbm, ⟨64, _⟩ => ⟨S64x1, .f32⟩
  | .hbm, ⟨65, _⟩ => ⟨S64x64, .f32⟩
  | .hbm, ⟨66, _⟩ => ⟨S64x64, .f32⟩
  | .hbm, ⟨67, _⟩ => ⟨S32x64, .f32⟩
  | .hbm, ⟨68, _⟩ => ⟨S32x1x64, .f32⟩
  | .hbm, ⟨69, _⟩ => ⟨S32x32x64, .f32⟩
  | .hbm, ⟨70, _⟩ => ⟨S32x32x64, .f32⟩
  | .hbm, ⟨71, _⟩ => ⟨S32x32x64, .f32⟩
  | .hbm, ⟨72, _⟩ => ⟨S_, .f32⟩
  | .hbm, ⟨73, _⟩ => ⟨S32x64, .f32⟩
  | .hbm, ⟨74, _⟩ => ⟨S256x32x32x32, .f32⟩
  | .hbm, ⟨75, _⟩ => ⟨S8x32x32x32x32, .f32⟩
  | .local _ .vmem, ⟨0, _⟩ => ⟨S32x64, .f32⟩
  | .local _ .vmem, ⟨1, _⟩ => ⟨S8x64x64x64, .f32⟩
  | .local _ .vmem, ⟨2, _⟩ => ⟨S8x64x64x64, .f32⟩
  | .local _ .vmem, ⟨3, _⟩ => ⟨S8x32x32x32, .f32⟩
  | .local _ .vmem, ⟨4, _⟩ => ⟨S8x32x32x32, .f32⟩
  | _, _ => ⟨S8x32x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_cst_7 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_10 : Ref sig .tc := ⟨.hbm, 54, rfl⟩
abbrev main_v40 : Ref sig .tc := ⟨.hbm, 55, rfl⟩
abbrev main_v41 : Ref sig .tc := ⟨.hbm, 56, rfl⟩
abbrev main_cst_11 : Ref sig .tc := ⟨.hbm, 57, rfl⟩
abbrev main_v42 : Ref sig .tc := ⟨.hbm, 58, rfl⟩
abbrev main_cst_12 : Ref sig .tc := ⟨.hbm, 59, rfl⟩
abbrev main_v43 : Ref sig .tc := ⟨.hbm, 60, rfl⟩
abbrev main_call1_v0 : Ref sig .tc := ⟨.hbm, 61, rfl⟩
abbrev main_call1_v1 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x64x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x32x64x64x64 : Shape := ⟨5, ![8, 32, 64, 64, 64]⟩
abbrev S8 : Shape := ⟨1, ![8]⟩
abbrev S8x1 : Shape := ⟨2, ![8, 1]⟩
abbrev S_ : Shape := ⟨0, ![]⟩
abbrev S1x8 : Shape := ⟨2, ![1, 8]⟩
abbrev S8x8 : Shape := ⟨2, ![8, 8]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x32x32x32x32 : Shape := ⟨5, ![8, 32, 32, 32, 32]⟩
abbrev S32 : Shape := ⟨1, ![32]⟩
abbrev S32x1 : Shape := ⟨2, ![32, 1]⟩
abbrev S1x32 : Shape := ⟨2, ![1, 32]⟩
abbrev S32x32 : Shape := ⟨2, ![32, 32]⟩

abbrev nBuf : Space → Nat
  | .hbm => 207
  | .vmem => 0
  | .smem => 0
  | _ => 0

abbrev hbmTy0_0 (i : Nat) : BufTy := match i % 128 with
  | 0 => ⟨S8x32x64x64x64, .f32⟩
  | 1 => ⟨S8, .f32⟩
  | 2 => ⟨S8, .f32⟩
  | 3 => ⟨S8x1, .f32⟩
  | 4 => ⟨S_, .f32⟩
  | 5 => ⟨S_, .f32⟩
  | 6 => ⟨S_, .f32⟩
  | 7 => ⟨S_, .f32⟩
  | 8 => ⟨S8, .f32⟩
  | 9 => ⟨S8, .f32⟩
  | 10 => ⟨S8, .f32⟩
  | 11 => ⟨S8, .f32⟩
  | 12 => ⟨S1x8, .f32⟩
  | 13 => ⟨S8x8, .f32⟩
  | 14 => ⟨S8x8, .f32⟩
  | 15 => ⟨S8x8, .f32⟩
  | 16 => ⟨S_, .f32⟩
  | 17 => ⟨S8x8, .f32⟩
  | 18 => ⟨S8x8, .f32⟩
  | 19 => ⟨S8x8, .f32⟩
  | 20 => ⟨S_, .f32⟩
  | 21 => ⟨S8x1, .f32⟩
  | 22 => ⟨S8x1, .i1⟩
  | 23 => ⟨S_, .f32⟩
  | 24 => ⟨S_, .f32⟩
  | 25 => ⟨S_, .f32⟩
  | 26 => ⟨S_, .f32⟩
  | 27 => ⟨S8x1, .f32⟩
  | 28 => ⟨S8x1, .f32⟩
  | 29 => ⟨S8x1, .f32⟩
  | 30 => ⟨S8x1, .f32⟩
  | 31 => ⟨S8x8, .f32⟩
  | 32 => ⟨S8x8, .f32⟩
  | 33 => ⟨S64, .f32⟩
  | 34 => ⟨S64, .f32⟩
  | 35 => ⟨S64x1, .f32⟩
  | 36 => ⟨S_, .f32⟩
  | 37 => ⟨S_, .f32⟩
  | 38 => ⟨S_, .f32⟩
  | 39 => ⟨S_, .f32⟩
  | 40 => ⟨S64, .f32⟩
  | 41 => ⟨S64, .f32⟩
  | 42 => ⟨S64, .f32⟩
  | 43 => ⟨S64, .f32⟩
  | 44 => ⟨S1x64, .f32⟩
  | 45 => ⟨S64x64, .f32⟩
  | 46 => ⟨S64x64, .f32⟩
  | 47 => ⟨S64x64, .f32⟩
  | 48 => ⟨S_, .f32⟩
  | 49 => ⟨S64x64, .f32⟩
  | 50 => ⟨S64x64, .f32⟩
  | 51 => ⟨S64x64, .f32⟩
  | 52 => ⟨S_, .f32⟩
  | 53 => ⟨S64x1, .f32⟩
  | 54 => ⟨S64x1, .i1⟩
  | 55 => ⟨S_, .f32⟩
  | 56 => ⟨S_, .f32⟩
  | 57 => ⟨S_, .f32⟩
  | 58 => ⟨S_, .f32⟩
  | 59 => ⟨S64x1, .f32⟩
  | 60 => ⟨S64x1, .f32⟩
  | 61 => ⟨S64x1, .f32⟩
  | 62 => ⟨S64x1, .f32⟩
  | 63 => ⟨S64x64, .f32⟩
  | 64 => ⟨S64x64, .f32⟩
  | 65 => ⟨S64, .f32⟩
  | 66 => ⟨S64, .f32⟩
  | 67 => ⟨S64x1, .f32⟩
  | 68 => ⟨S_, .f32⟩
  | 69 => ⟨S_, .f32⟩
  | 70 => ⟨S_, .f32⟩
  | 71 => ⟨S_, .f32⟩
  | 72 => ⟨S64, .f32⟩
  | 73 => ⟨S64, .f32⟩
  | 74 => ⟨S64, .f32⟩
  | 75 => ⟨S64, .f32⟩
  | 76 => ⟨S1x64, .f32⟩
  | 77 => ⟨S64x64, .f32⟩
  | 78 => ⟨S64x64, .f32⟩
  | 79 => ⟨S64x64, .f32⟩
  | 80 => ⟨S_, .f32⟩
  | 81 => ⟨S64x64, .f32⟩
  | 82 => ⟨S64x64, .f32⟩
  | 83 => ⟨S64x64, .f32⟩
  | 84 => ⟨S_, .f32⟩
  | 85 => ⟨S64x1, .f32⟩
  | 86 => ⟨S64x1, .i1⟩
  | 87 => ⟨S_, .f32⟩
  | 88 => ⟨S_, .f32⟩
  | 89 => ⟨S_, .f32⟩
  | 90 => ⟨S_, .f32⟩
  | 91 => ⟨S64x1, .f32⟩
  | 92 => ⟨S64x1, .f32⟩
  | 93 => ⟨S64x1, .f32⟩
  | 94 => ⟨S64x1, .f32⟩
  | 95 => ⟨S64x64, .f32⟩
  | 96 => ⟨S64x64, .f32⟩
  | 97 => ⟨S8x32x64x64x64, .f32⟩
  | 98 => ⟨S8x32x64x64x64, .f32⟩
  | 99 => ⟨S8x32x64x64x64, .f32⟩
  | 100 => ⟨S8x32x64x64x64, .f32⟩
  | 101 => ⟨S8x32x64x64x64, .f32⟩
  | 102 => ⟨S8x32x32x32x32, .f32⟩
  | 103 => ⟨S_, .i32⟩
  | 104 => ⟨S_, .f32⟩
  | 105 => ⟨S8x32x32x32x32, .f32⟩
  | 106 => ⟨S8, .f32⟩
  | 107 => ⟨S8, .f32⟩
  | 108 => ⟨S8x1, .f32⟩
  | 109 => ⟨S_, .f32⟩
  | 110 => ⟨S_, .f32⟩
  | 111 => ⟨S_, .f32⟩
  | 112 => ⟨S_, .f32⟩
  | 113 => ⟨S8, .f32⟩
  | 114 => ⟨S8, .f32⟩
  | 115 => ⟨S8, .f32⟩
  | 116 => ⟨S8, .f32⟩
  | 117 => ⟨S1x8, .f32⟩
  | 118 => ⟨S8x8, .f32⟩
  | 119 => ⟨S8x8, .f32⟩
  | 120 => ⟨S8x8, .f32⟩
  | 121 => ⟨S_, .f32⟩
  | 122 => ⟨S8x8, .f32⟩
  | 123 => ⟨S8x8, .f32⟩
  | 124 => ⟨S8x8, .f32⟩
  | 125 => ⟨S_, .f32⟩
  | 126 => ⟨S8x1, .f32⟩
  | 127 => ⟨S8x1, .i1⟩
  | _ => ⟨S8x32x64x64x64, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S8x1, .f32⟩
  | 5 => ⟨S8x1, .f32⟩
  | 6 => ⟨S8x1, .f32⟩
  | 7 => ⟨S8x1, .f32⟩
  | 8 => ⟨S8x8, .f32⟩
  | 9 => ⟨S8x8, .f32⟩
  | 10 => ⟨S8x32x32x32x32, .f32⟩
  | 11 => ⟨S32, .f32⟩
  | 12 => ⟨S32, .f32⟩
  | 13 => ⟨S32x1, .f32⟩
  | 14 => ⟨S_, .f32⟩
  | 15 => ⟨S_, .f32⟩
  | 16 => ⟨S_, .f32⟩
  | 17 => ⟨S_, .f32⟩
  | 18 => ⟨S32, .f32⟩
  | 19 => ⟨S32, .f32⟩
  | 20 => ⟨S32, .f32⟩
  | 21 => ⟨S32, .f32⟩
  | 22 => ⟨S1x32, .f32⟩
  | 23 => ⟨S32x32, .f32⟩
  | 24 => ⟨S32x32, .f32⟩
  | 25 => ⟨S32x32, .f32⟩
  | 26 => ⟨S_, .f32⟩
  | 27 => ⟨S32x32, .f32⟩
  | 28 => ⟨S32x32, .f32⟩
  | 29 => ⟨S32x32, .f32⟩
  | 30 => ⟨S_, .f32⟩
  | 31 => ⟨S32x1, .f32⟩
  | 32 => ⟨S32x1, .i1⟩
  | 33 => ⟨S_, .f32⟩
  | 34 => ⟨S_, .f32⟩
  | 35 => ⟨S_, .f32⟩
  | 36 => ⟨S_, .f32⟩
  | 37 => ⟨S32x1, .f32⟩
  | 38 => ⟨S32x1, .f32⟩
  | 39 => ⟨S32x1, .f32⟩
  | 40 => ⟨S32x1, .f32⟩
  | 41 => ⟨S32x32, .f32⟩
  | 42 => ⟨S32x32, .f32⟩
  | 43 => ⟨S8x32x32x32x32, .f32⟩
  | 44 => ⟨S8x32x32x32x32, .f32⟩
  | 45 => ⟨S32, .f32⟩
  | 46 => ⟨S32, .f32⟩
  | 47 => ⟨S32x1, .f32⟩
  | 48 => ⟨S_, .f32⟩
  | 49 => ⟨S_, .f32⟩
  | 50 => ⟨S_, .f32⟩
  | 51 => ⟨S_, .f32⟩
  | 52 => ⟨S32, .f32⟩
  | 53 => ⟨S32, .f32⟩
  | 54 => ⟨S32, .f32⟩
  | 55 => ⟨S32, .f32⟩
  | 56 => ⟨S1x32, .f32⟩
  | 57 => ⟨S32x32, .f32⟩
  | 58 => ⟨S32x32, .f32⟩
  | 59 => ⟨S32x32, .f32⟩
  | 60 => ⟨S_, .f32⟩
  | 61 => ⟨S32x32, .f32⟩
  | 62 => ⟨S32x32, .f32⟩
  | 63 => ⟨S32x32, .f32⟩
  | 64 => ⟨S_, .f32⟩
  | 65 => ⟨S32x1, .f32⟩
  | 66 => ⟨S32x1, .i1⟩
  | 67 => ⟨S_, .f32⟩
  | 68 => ⟨S_, .f32⟩
  | 69 => ⟨S_, .f32⟩
  | 70 => ⟨S_, .f32⟩
  | 71 => ⟨S32x1, .f32⟩
  | 72 => ⟨S32x1, .f32⟩
  | 73 => ⟨S32x1, .f32⟩
  | 74 => ⟨S32x1, .f32⟩
  | 75 => ⟨S32x32, .f32⟩
  | 76 => ⟨S32x32, .f32⟩
  | 77 => ⟨S8x32x32x32x32, .f32⟩
  | 78 => ⟨S8x32x32x32x32, .f32⟩
  | _ => ⟨S8x32x64x64x64, .f32⟩

abbrev hbmTy (i : Nat) : BufTy := match i / 128 with
  | 0 => hbmTy0_0 i
  | 1 => hbmTy0_1 i
  | _ => ⟨S8x32x64x64x64, .f32⟩

abbrev bufTy : (tb : Table) → Fin (tcTables nBuf tb) → BufTy
  | .hbm, ⟨i, _⟩ => hbmTy i
  | _, _ => ⟨S8x32x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_cst_5 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_cst_7 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_cst_12 : Ref sig .tc := ⟨.hbm, 57, rfl⟩
abbrev main_v41 : Ref sig .tc := ⟨.hbm, 58, rfl⟩
abbrev main_call1_v0 : Ref sig .tc := ⟨.hbm, 59, rfl⟩
abbrev main_call1_v1 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_cst_14 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩
abbrev main_cst_18 : Ref sig .tc := ⟨.hbm, 87, rfl⟩
abbrev main_v63 : Ref sig .tc := ⟨.hbm, 88, rfl⟩
abbrev main_cst_19 : Ref sig .tc := ⟨.hbm, 89, rfl⟩
abbrev main_v64 : Ref sig .tc := ⟨.hbm, 90, rfl⟩
abbrev main_call2_v0 : Ref sig .tc := ⟨.hbm, 91, rfl⟩
abbrev main_call2_v1 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c : Ref sig .tc := ⟨.hbm, 103, rfl⟩
abbrev main_call3_v0 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_20 : Ref sig .tc := ⟨.hbm, 109, rfl⟩
abbrev main_cst_21 : Ref sig .tc := ⟨.hbm, 110, rfl⟩
abbrev main_v79 : Ref sig .tc := ⟨.hbm, 111, rfl⟩
abbrev main_cst_22 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_23 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_24 : Ref sig .tc := ⟨.hbm, 125, rfl⟩
abbrev main_v91 : Ref sig .tc := ⟨.hbm, 126, rfl⟩
abbrev main_v92 : Ref sig .tc := ⟨.hbm, 127, rfl⟩
abbrev main_cst_25 : Ref sig .tc := ⟨.hbm, 128, rfl⟩
abbrev main_v93 : Ref sig .tc := ⟨.hbm, 129, rfl⟩
abbrev main_cst_26 : Ref sig .tc := ⟨.hbm, 130, rfl⟩
abbrev main_v94 : Ref sig .tc := ⟨.hbm, 131, rfl⟩
abbrev main_call4_v0 : Ref sig .tc := ⟨.hbm, 132, rfl⟩
abbrev main_call4_v1 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_27 : Ref sig .tc := ⟨.hbm, 142, rfl⟩
abbrev main_cst_28 : Ref sig .tc := ⟨.hbm, 143, rfl⟩
abbrev main_v103 : Ref sig .tc := ⟨.hbm, 144, rfl⟩
abbrev main_cst_29 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_30 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_31 : Ref sig .tc := ⟨.hbm, 158, rfl⟩
abbrev main_v115 : Ref sig .tc := ⟨.hbm, 159, rfl⟩
abbrev main_v116 : Ref sig .tc := ⟨.hbm, 160, rfl⟩
abbrev main_cst_32 : Ref sig .tc := ⟨.hbm, 161, rfl⟩
abbrev main_v117 : Ref sig .tc := ⟨.hbm, 162, rfl⟩
abbrev main_cst_33 : Ref sig .tc := ⟨.hbm, 163, rfl⟩
abbrev main_v118 : Ref sig .tc := ⟨.hbm, 164, rfl⟩
abbrev main_call5_v0 : Ref sig .tc := ⟨.hbm, 165, rfl⟩
abbrev main_call5_v1 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_cst_34 : Ref sig .tc := ⟨.hbm, 176, rfl⟩
abbrev main_cst_35 : Ref sig .tc := ⟨.hbm, 177, rfl⟩
abbrev main_v128 : Ref sig .tc := ⟨.hbm, 178, rfl⟩
abbrev main_cst_36 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_cst_37 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_cst_38 : Ref sig .tc := ⟨.hbm, 192, rfl⟩
abbrev main_v140 : Ref sig .tc := ⟨.hbm, 193, rfl⟩
abbrev main_v141 : Ref sig .tc := ⟨.hbm, 194, rfl⟩
abbrev main_cst_39 : Ref sig .tc := ⟨.hbm, 195, rfl⟩
abbrev main_v142 : Ref sig .tc := ⟨.hbm, 196, rfl⟩
abbrev main_cst_40 : Ref sig .tc := ⟨.hbm, 197, rfl⟩
abbrev main_v143 : Ref sig .tc := ⟨.hbm, 198, rfl⟩
abbrev main_call6_v0 : Ref sig .tc := ⟨.hbm, 199, rfl⟩
abbrev main_call6_v1 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩

abbrev nD : Nat := 1
abbrev τ : Topo := Topo.v7x

variable {F : FTy → Type} [FloatOps F]
-- ==== Proof.Dct.lean ====
/- The mathematics of the resample over the reals: the orthonormal DCT-II matrix, its orthogonality, and the equation
   between the two-product form and the transform–crop–inverse form. -/
module

public import Idealize.ShloMosaic.PureOps.Ideal

@[expose] public section

noncomputable section

namespace Cert.Resample

open Finset

/-- Entry `(k, n)` of the orthonormal DCT-II matrix of size `N`: frequency `k`, sample `n`. -/
def dct (N k n : ℕ) : ℝ :=
  Real.cos (Real.pi * (n + 1 / 2) * k / N) * (if k = 0 then √(1 / N) else √(2 / N))

/-- The closed form of a sum of cosines of the multiples of an angle, multiplied through by twice the half angle's sine. -/
theorem sin_mul_sum_cos (θ : ℝ) (M : ℕ) :
    2 * Real.sin (θ / 2) * ∑ k ∈ range M, Real.cos ((k + 1 : ℕ) * θ) = Real.sin ((M + 1 / 2) * θ) - Real.sin (θ / 2) := by
  induction M with
  | zero => simp; ring_nf
  | succ M ih =>
    rw [sum_range_succ, mul_add, ih, mul_assoc, mul_left_comm, ← mul_assoc, ]
    have h : Real.sin (((M + 1 : ℕ) + 1 / 2) * θ) - Real.sin ((M + 1 / 2) * θ)
        = 2 * Real.sin (θ / 2) * Real.cos ((M + 1 : ℕ) * θ) := by
      rw [Real.sin_sub_sin]; push_cast; ring_nf
    linarith

/-- Over the frequencies `1 … M` of a size-`M + 1` grid, the cosines at the odd multiple of the grid angle add to zero and
    at an even multiple that is not a whole turn to minus one. -/
theorem sum_cos_grid (M : ℕ) (m : ℤ) (hm : Real.sin (Real.pi * m / (M + 1 : ℕ) / 2) ≠ 0) :
    ∑ k ∈ range M, Real.cos ((k + 1 : ℕ) * (Real.pi * m / (M + 1 : ℕ))) = (-(-1) ^ m - 1) / 2 := by
  have h := sin_mul_sum_cos (Real.pi * m / (M + 1 : ℕ)) M
  have hN : ((M + 1 : ℕ) : ℝ) ≠ 0 := by positivity
  have e : ((M : ℝ) + 1 / 2) * (Real.pi * m / (M + 1 : ℕ)) = m * Real.pi - Real.pi * m / (M + 1 : ℕ) / 2 := by
    field_simp; push_cast; ring
  rw [e, Real.sin_sub, Real.sin_int_mul_pi, Real.cos_int_mul_pi] at h
  have h2 : 2 * Real.sin (Real.pi * m / (M + 1 : ℕ) / 2) *
      (∑ k ∈ range M, Real.cos ((k + 1 : ℕ) * (Real.pi * m / (M + 1 : ℕ))) - (-(-1) ^ m - 1) / 2) = 0 := by
    rw [mul_sub, h]; ring
  rcases mul_eq_zero.mp h2 with h3 | h3
  · exact absurd (by simpa using h3) hm
  · linarith

/-- A sine of half a grid angle `m` steps along is not zero when `m` lies strictly inside one period. -/
theorem sin_grid_ne_zero (M : ℕ) (m : ℤ) (h0 : m ≠ 0) (hlo : -(2 * (M + 1)) < m) (hhi : m < 2 * (M + 1)) :
    Real.sin (Real.pi * m / (M + 1 : ℕ) / 2) ≠ 0 := by
  intro h
  obtain ⟨j, hj⟩ := Real.sin_eq_zero_iff.mp h
  have hN : ((M + 1 : ℕ) : ℝ) ≠ 0 := by positivity
  have : (j : ℝ) * (2 * (M + 1 : ℕ)) = m := by
    field_simp at hj
    have hp := Real.pi_ne_zero
    have : Real.pi * ((j : ℝ) * (2 * (M + 1 : ℕ))) = Real.pi * m := by rw [← hj]; ring
    exact mul_left_cancel₀ hp this
  have hz : j * (2 * ((M : ℤ) + 1)) = m := by exact_mod_cast this
  have hj0 : j ≠ 0 := by rintro rfl; simp at hz; exact h0 hz.symm
  rcases lt_or_gt_of_ne hj0 with hl | hg
  · nlinarith
  · nlinarith

/-- The rows' orthogonality read down the columns: two columns of the orthonormal DCT-II matrix have inner product one when
    they are the same column and zero otherwise. -/
theorem dct_orthogonal (N n b : ℕ) (hn : n < N) (hb : b < N) :
    ∑ k ∈ range N, dct N k n * dct N k b = if n = b then 1 else 0 := by
  obtain ⟨M, rfl⟩ : ∃ M, N = M + 1 := ⟨N - 1, by omega⟩
  have hN : ((M + 1 : ℕ) : ℝ) ≠ 0 := by positivity
  have hterm : ∀ k : ℕ, dct (M + 1) (k + 1) n * dct (M + 1) (k + 1) b
      = (Real.cos ((k + 1 : ℕ) * (Real.pi * ((n - b : ℤ) : ℝ) / (M + 1 : ℕ)))
        + Real.cos ((k + 1 : ℕ) * (Real.pi * ((n + b + 1 : ℤ) : ℝ) / (M + 1 : ℕ)))) / (M + 1 : ℕ) := by
    intro k
    have hs : √(2 / ((M + 1 : ℕ) : ℝ)) * √(2 / ((M + 1 : ℕ) : ℝ)) = 2 / (M + 1 : ℕ) := Real.mul_self_sqrt (by positivity)
    have hc := Real.cos_add_cos ((k + 1 : ℕ) * (Real.pi * ((n + b + 1 : ℤ) : ℝ) / (M + 1 : ℕ)))
      ((k + 1 : ℕ) * (Real.pi * ((n - b : ℤ) : ℝ) / (M + 1 : ℕ)))
    have e1 : ((k + 1 : ℕ) * (Real.pi * ((n + b + 1 : ℤ) : ℝ) / (M + 1 : ℕ)) + (k + 1 : ℕ) * (Real.pi * ((n - b : ℤ) : ℝ) / (M + 1 : ℕ))) / 2
        = Real.pi * (n + 1 / 2) * (k + 1 : ℕ) / (M + 1 : ℕ) := by push_cast; ring
    have e2 : ((k + 1 : ℕ) * (Real.pi * ((n + b + 1 : ℤ) : ℝ) / (M + 1 : ℕ)) - (k + 1 : ℕ) * (Real.pi * ((n - b : ℤ) : ℝ) / (M + 1 : ℕ))) / 2
        = Real.pi * (b + 1 / 2) * (k + 1 : ℕ) / (M + 1 : ℕ) := by push_cast; ring
    rw [e1, e2] at hc
    rw [add_comm (Real.cos _), hc]
    simp only [dct, Nat.succ_ne_zero, if_false]
    calc _ = Real.cos (Real.pi * (n + 1 / 2) * (k + 1 : ℕ) / (M + 1 : ℕ)) * Real.cos (Real.pi * (b + 1 / 2) * (k + 1 : ℕ) / (M + 1 : ℕ))
          * (√(2 / ((M + 1 : ℕ) : ℝ)) * √(2 / ((M + 1 : ℕ) : ℝ))) := by ring
      _ = _ := by rw [hs]; ring
  have h0 : dct (M + 1) 0 n * dct (M + 1) 0 b = 1 / (M + 1 : ℕ) := by
    have hs : √(1 / ((M + 1 : ℕ) : ℝ)) * √(1 / ((M + 1 : ℕ) : ℝ)) = 1 / (M + 1 : ℕ) := Real.mul_self_sqrt (by positivity)
    simp only [dct, Nat.cast_zero, mul_zero, zero_div, Real.cos_zero, one_mul, if_true]
    exact hs
  rw [sum_range_succ', h0, sum_congr rfl fun k _ => hterm k, ← sum_div, sum_add_distrib,
    sum_cos_grid M (n + b + 1) (sin_grid_ne_zero M _ (by omega) (by omega) (by omega))]
  by_cases hnb : n = b
  · subst hnb
    have hp : (-1 : ℝ) ^ ((n : ℤ) + n + 1) = -1 := Odd.neg_one_zpow ⟨n, by ring⟩
    rw [hp]
    simp
    field_simp
    try push_cast
    try ring
  · rw [sum_cos_grid M (n - b) (sin_grid_ne_zero M _ (by omega) (by omega) (by omega)), if_neg hnb]
    have hp : (-1 : ℝ) ^ ((n : ℤ) + b + 1) = -(-1) ^ ((n : ℤ) - b) := by
      rw [show (n : ℤ) + b + 1 = (n - b) + (2 * b + 1) by ring, zpow_add₀ (by norm_num), Odd.neg_one_zpow ⟨(b : ℤ), rfl⟩]
      ring
    rw [hp]
    field_simp
    try ring

/-- The composed one-axis resample matrix, from 64 samples to 32: the size-32 inverse transform of the 32 lowest
    frequencies of the size-64 transform. -/
def resample (k d : ℕ) : ℝ := ∑ j : Fin 32, dct 32 j k * dct 64 j d

/-- Transforming along the batch and back, whatever linear map of the other two axes lies between, is that map alone. -/
theorem batch_round_trip (c e : Fin 64 → ℝ) (x : Fin 8 → Fin 64 → Fin 64 → ℝ) (n : Fin 8) :
    ∑ q : Fin 8, dct 8 q n * ∑ h : Fin 64, c h * ∑ d : Fin 64, e d * ∑ b : Fin 8, dct 8 q b * x b d h
      = ∑ h : Fin 64, c h * ∑ d : Fin 64, e d * x n d h := by
  have ho : ∀ b : Fin 8, ∑ q : Fin 8, dct 8 q n * dct 8 q b = if n = b then 1 else 0 := by
    intro b
    rw [Fin.sum_univ_eq_sum_range (fun q => dct 8 q n * dct 8 q b) 8, dct_orthogonal 8 n b n.2 b.2]
    simp only [Fin.ext_iff]
  have hb : ∀ d h : Fin 64, x n d h = ∑ b : Fin 8, (∑ q : Fin 8, dct 8 q n * dct 8 q b) * x b d h := by
    intro d h; simp only [ho, ite_mul, one_mul, zero_mul, sum_ite_eq, mem_univ, if_true]
  simp only [hb, mul_sum, sum_mul]
  rw [sum_comm]
  refine sum_congr rfl fun h _ => ?_
  rw [sum_comm]
  refine sum_congr rfl fun d _ => ?_
  rw [sum_comm]
  refine sum_congr rfl fun b _ => sum_congr rfl fun q _ => ?_
  ring

/-- A fourfold sum with its outer two sums brought inside, in the opposite order. -/
theorem sum_rotate {α β γ δ : Type} [Fintype α] [Fintype β] [Fintype γ] [Fintype δ] (f : α → β → γ → δ → ℝ) :
    ∑ a, ∑ b, ∑ p, ∑ r, f a b p r = ∑ p, ∑ r, ∑ b, ∑ a, f a b p r :=
  (sum_congr rfl fun _ _ => sum_comm).trans <| sum_comm.trans <| sum_congr rfl fun _ _ =>
    (sum_congr rfl fun _ _ => sum_comm).trans <| sum_comm.trans <| sum_congr rfl fun _ _ => sum_comm

/-- The resample by transforms, crop and inverse transforms along batch, depth and height equals two products with the
    composed one-axis matrix. -/
theorem resample_eq (x : Fin 8 → Fin 64 → Fin 64 → ℝ) (n : Fin 8) (k l : ℕ) :
    ∑ d : Fin 64, resample k d * ∑ h : Fin 64, resample l h * x n d h
      = ∑ p : Fin 32, dct 32 p l * ∑ r : Fin 32, dct 32 r k * ∑ q : Fin 8, dct 8 q n *
          ∑ h : Fin 64, dct 64 p h * ∑ d : Fin 64, dct 64 r d * ∑ b : Fin 8, dct 8 q b * x b d h := by
  have hr : ∀ p r : Fin 32, _ := fun p r => batch_round_trip (fun h => dct 64 p h) (fun d => dct 64 r d) x n
  simp only [hr]
  simp only [resample, mul_sum, sum_mul]
  rw [sum_rotate]
  refine sum_congr rfl fun p _ => sum_congr rfl fun r _ => sum_congr rfl fun h _ => sum_congr rfl fun d _ => ?_
  ring

end Cert.Resample

end
-- ==== Proof.HostTable.lean ====
/- The DCT matrix as host operations build it, read entry by entry as the real matrix. -/
module

public import proofs.«01_k».proof.Proof.Dct
public import Idealize.ShloMosaic.Lib.IdealHost
public import Idealize.ShloMosaic.Lib.Pipeline.Value
public import Idealize.ShloMosaic.Lib.Pointwise

@[expose] public section

noncomputable section

namespace Cert.Resample

open Idealize.ShloMosaic

/-- The two-argument arctangent of zero and minus one is the half turn. -/
theorem atan2_half_turn :
    Ideal.atan2 (Ideal.ofBits .f32 0x00000000#32) (Ideal.ofBits .f32 0xBF800000#32) = ((Real.pi : ℝ) : EReal) := by
  have h0 : Ideal.ofBits .f32 0x00000000#32 = ((0 : ℝ) : EReal) := by simp [Ideal.ofBits, Ideal.ieee]
  have h1 : Ideal.ofBits .f32 0xBF800000#32 = ((-1 : ℝ) : EReal) := by
    simp [Ideal.ofBits, Ideal.ieee, -EReal.coe_mul]; norm_num
  have h2 : Ideal.atan2 ((0 : ℝ) : EReal) ((-1 : ℝ) : EReal)
      = ((if (0 : ℝ) < -1 then Real.arctan (0 / -1)
          else if (-1 : ℝ) < 0 then (if (0 : ℝ) ≤ 0 then Real.arctan (0 / -1) + Real.pi else Real.arctan (0 / -1) - Real.pi)
          else if (0 : ℝ) < 0 then Real.pi / 2 else if (0 : ℝ) < 0 then -(Real.pi / 2) else 0 : ℝ) : EReal) := rfl
  rw [h0, h1, h2]
  norm_num

/-- The word of one half is one half. -/
theorem half_word : Ideal.ofBits .f32 0x3F000000#32 = ((1 / 2 : ℝ) : EReal) := by
  simp [Ideal.ofBits, Ideal.ieee, -EReal.coe_mul]; norm_num

section Table

variable (N : ℕ)

/-- A vector of `N` entries. -/
abbrev Row : Shape := ⟨1, ![N]⟩
/-- A column of `N` entries. -/
abbrev Col : Shape := ⟨2, ![N, 1]⟩
/-- A line of `N` entries. -/
abbrev Line : Shape := ⟨2, ![1, N]⟩
/-- A square of `N` by `N` entries. -/
abbrev Square : Shape := ⟨2, ![N, N]⟩

variable (hc : (Row N).BroadcastsInDim (Col N) ![0]) (hl : (Row N).BroadcastsInDim (Line N) ![1])
  (hcs : (Col N).BroadcastsInDim (Square N) ![0, 1]) (hls : (Line N).BroadcastsInDim (Square N) ![0, 1])
  (hr0 : (⟨0, ![]⟩ : Shape).BroadcastsInDim (Row N) ![]) (hc0 : (⟨0, ![]⟩ : Shape).BroadcastsInDim (Col N) ![])
  (hs0 : (⟨0, ![]⟩ : Shape).BroadcastsInDim (Square N) ![])

/-- The counting column `0, 1, …`. -/
def countCol : FVec Ideal (Col N) .f32 := broadcastInDim (Col N) ![0] hc (sitofp .f32 (iotaInDim (Row N) 32 0))

/-- The DCT matrix of size `N` as the host builds it, from the words of `N`, `1 / N` and `2 / N`. -/
def table (wN w1 w2 : BitVec 32) : FVec Ideal (Square N) .f32 :=
  mulf (Host.cos (Host.divf (mulf (broadcastInDim (Square N) ![0, 1] hls (broadcastInDim (Line N) ![1] hl
      (mulf (broadcastInDim (Row N) ![] hr0 (Host.atan2 (constant ⟨0, ![]⟩ .f32 0x00000000#32) (constant ⟨0, ![]⟩ .f32 0xBF800000#32)))
        (addf (sitofp .f32 (iotaInDim (Row N) 32 0)) (broadcastInDim (Row N) ![] hr0 (constant ⟨0, ![]⟩ .f32 0x3F000000#32))))))
      (broadcastInDim (Square N) ![0, 1] hcs (countCol N hc)))
      (broadcastInDim (Square N) ![] hs0 (constant ⟨0, ![]⟩ .f32 wN))))
    (broadcastInDim (Square N) ![0, 1] hcs (id (select
      (cmpf .oeq (countCol N hc) (broadcastInDim (Col N) ![] hc0 (constant ⟨0, ![]⟩ .f32 0x00000000#32)))
      (broadcastInDim (Col N) ![] hc0 (Host.sqrt (constant ⟨0, ![]⟩ .f32 w1)))
      (broadcastInDim (Col N) ![] hc0 (Host.sqrt (constant ⟨0, ![]⟩ .f32 w2))))))

include hl hls in
/-- A vector laid along the lines of the square. -/
theorem along_lines (hN : N ≠ 1) (v : (Row N).Idx → EReal) (k n : Fin N) :
    broadcastInDim (Square N) ![0, 1] hls (broadcastInDim (Line N) ![1] hl v) (ix2 k n) = v (ix1 n) := by
  rw [broadcastInDim_apply (k := ix2 (0 : Fin 1) n), broadcastInDim_apply (k := ix1 n)]
  · intro a; fin_cases a; simp [hN]
  · intro a; fin_cases a <;> simp [hN] <;> rfl

/-- A column repeated across the square. -/
theorem across_columns (hN : N ≠ 1) (v : (Col N).Idx → EReal) (k n : Fin N) :
    broadcastInDim (Square N) ![0, 1] hcs v (ix2 k n) = v (ix2 k (0 : Fin 1)) := by
  rw [broadcastInDim_apply (k := ix2 k (0 : Fin 1))]
  intro a; fin_cases a <;> simp [hN] <;> rfl

/-- Counting: entry `n` of the index vector, made a float, is the number `n`. -/
theorem count_apply (hN : N < 2 ^ 31) (n : Fin N) :
    (sitofp .f32 (iotaInDim (Row N) 32 0) : FVec Ideal (Row N) .f32) (ix1 n) = ((n : ℝ) : EReal) := by
  show (((BitVec.ofNat 32 (n : ℕ)).toInt : ℝ) : EReal) = _
  have h : (BitVec.ofNat 32 (n : ℕ)).toInt = (n : ℕ) := by
    have hn := n.2
    rw [BitVec.toInt_eq_toNat_of_lt] <;> simp only [BitVec.toNat_ofNat] <;> omega
  rw [h]; simp

/-- Entry `k` of the counting column is the number `k`. -/
theorem countCol_apply (hN1 : N ≠ 1) (hN : N < 2 ^ 31) (k : Fin N) : countCol N hc (ix2 k (0 : Fin 1)) = ((k : ℝ) : EReal) := by
  unfold countCol
  rw [broadcastInDim_apply (k := ix1 k), count_apply N hN]
  intro a; fin_cases a; simp [hN1]

/-- The host's matrix holds the real DCT matrix, entry by entry. -/
theorem table_apply (hN1 : N ≠ 1) (hN0 : N ≠ 0) (hN : N < 2 ^ 31) (wN w1 w2 : BitVec 32)
    (hwN : Ideal.ofBits .f32 wN = ((N : ℝ) : EReal)) (hw1 : Ideal.ofBits .f32 w1 = ((1 / N : ℝ) : EReal))
    (hw2 : Ideal.ofBits .f32 w2 = ((2 / N : ℝ) : EReal)) (k n : Fin N) :
    table N hc hl hcs hls hr0 hc0 hs0 wN w1 w2 (ix2 k n) = ((dct N k n : ℝ) : EReal) := by
  have hNr : (N : ℝ) ≠ 0 := by exact_mod_cast hN0
  have hsq1 : Ideal.sqrt ((1 / N : ℝ) : EReal) = ((√(1 / N) : ℝ) : EReal) := by
    rw [Ideal.sqrt_coe, if_neg (not_lt.mpr (by positivity))]
  have hsq2 : Ideal.sqrt ((2 / N : ℝ) : EReal) = ((√(2 / N) : ℝ) : EReal) := by
    rw [Ideal.sqrt_coe, if_neg (not_lt.mpr (by positivity))]
  have h0 : Ideal.ofBits .f32 0x00000000#32 = ((0 : ℝ) : EReal) := by simp [Ideal.ofBits, Ideal.ieee]
  have e : table N hc hl hcs hls hr0 hc0 hs0 wN w1 w2 (ix2 k n)
      = Ideal.cos (Ideal.div (((Real.pi : ℝ) : EReal) * (((n : ℝ) : EReal) + ((1 / 2 : ℝ) : EReal)) * ((k : ℝ) : EReal)) ((N : ℝ) : EReal))
        * Scalar.select (Ideal.cmp .oeq ((k : ℝ) : EReal) ((0 : ℝ) : EReal)) ((√(1 / N) : ℝ) : EReal) ((√(2 / N) : ℝ) : EReal) := by
    rw [← hsq1, ← hsq2, ← hw1, ← hw2, ← hwN, ← half_word, ← h0, ← atan2_half_turn, ← count_apply N hN n,
      ← countCol_apply N hc hN1 hN k]
    unfold table
    rw [ValueIdx.mulf_apply, across_columns N hcs hN1]
    show Ideal.cos (Ideal.div (broadcastInDim (Square N) ![0, 1] hls (broadcastInDim (s := Row N) (Line N) ![1] hl _) (ix2 k n)
      * broadcastInDim (Square N) ![0, 1] hcs (countCol N hc) (ix2 k n)) _) * _ = _
    rw [across_columns N hcs hN1, along_lines N hl hls hN1]
    rfl
  have hcos : Ideal.cos (Ideal.div (((Real.pi : ℝ) : EReal) * (((n : ℝ) : EReal) + ((1 / 2 : ℝ) : EReal)) * ((k : ℝ) : EReal)) ((N : ℝ) : EReal))
      = ((Real.cos (Real.pi * (n + 1 / 2) * k / N) : ℝ) : EReal) := by
    rw [Ideal.div_coe hNr, ← EReal.coe_add, ← EReal.coe_mul, ← EReal.coe_mul, ← EReal.coe_mul, Ideal.cos_coe, mul_one_div]
  have hsel : Scalar.select (Ideal.cmp .oeq ((k : ℝ) : EReal) ((0 : ℝ) : EReal)) ((√(1 / N) : ℝ) : EReal) ((√(2 / N) : ℝ) : EReal)
      = (((if (k : ℕ) = 0 then √(1 / N) else √(2 / N)) : ℝ) : EReal) := by
    by_cases hk : (k : ℕ) = 0
    · rw [if_pos hk]; simp [hk, Ideal.cmp, Scalar.select]
    · have hk' : ¬((k : ℝ) : EReal) = ((0 : ℝ) : EReal) := by
        rw [EReal.coe_eq_coe_iff]; exact_mod_cast hk
      rw [if_neg hk]; simp only [Ideal.cmp, decide_eq_false hk', Scalar.select]; simp
  rw [e, hcos, hsel, ← EReal.coe_mul]
  rfl

end Table

end Cert.Resample

end
-- ==== Proof.RefValue.lean ====
/- What the reference computes: its result, entry by entry, as nested real sums over DCT matrices. -/
module

public import proofs.«01_k».proof.Proof.HostTable
public import proofs.«01_k».proof.Proof.Gen.ReferenceIdeal.Run
public import Idealize.ShloMosaic.Lib.Pointwise

@[expose] public section

noncomputable section

namespace Cert.Resample

open Idealize.ShloMosaic

/-- A finite sum of products of finite values is the finite value of the real sum of products. -/
theorem coe_sum_mul {n : ℕ} (f g : Fin n → ℝ) :
    ∑ i, ((f i : ℝ) : EReal) * ((g i : ℝ) : EReal) = ((∑ i, f i * g i : ℝ) : EReal) := by
  simp only [← EReal.coe_mul]
  exact (map_sum (⟨⟨Real.toEReal, EReal.coe_zero⟩, EReal.coe_add⟩ : ℝ →+ EReal) _ _).symm

end Cert.Resample

namespace Cert.ReferenceIdeal.Value

open Cert.ReferenceIdeal Cert.ReferenceIdeal.Gen Idealize.ShloMosaic Idealize.ShloMosaic.TcCoe
open Idealize.SL.Sem Idealize.ShloMosaic.StableHlo Cert.Resample

/-- The reference's matrix of size 8. -/
def C8 : FVec Ideal S8x8 .f32 :=
  table 8 bcast_S8_S8x1_0 bcast_S8_S1x8_1 bcast_S8x1_S8x8_0_1 bcast_S1x8_S8x8_0_1 bcast_S_S8 bcast_S_S8x1 bcast_S_S8x8
    0x41000000#32 0x3E000000#32 0x3E800000#32
/-- The reference's matrix of size 32. -/
def C32 : FVec Ideal S32x32 .f32 :=
  table 32 bcast_S32_S32x1_0 bcast_S32_S1x32_1 bcast_S32x1_S32x32_0_1 bcast_S1x32_S32x32_0_1 bcast_S_S32 bcast_S_S32x1
    bcast_S_S32x32 0x42000000#32 0x3D000000#32 0x3D800000#32
/-- The reference's matrix of size 64. -/
def C64 : FVec Ideal S64x64 .f32 :=
  table 64 bcast_S64_S64x1_0 bcast_S64_S1x64_1 bcast_S64x1_S64x64_0_1 bcast_S1x64_S64x64_0_1 bcast_S_S64 bcast_S_S64x1
    bcast_S_S64x64 0x42800000#32 0x3C800000#32 0x3D000000#32

/-- The transforms along batch, depth and height. -/
def spectrum (x : FVec Ideal S8x32x64x64x64 .f32) : FVec Ideal S8x32x64x64x64 .f32 :=
  transpose S8x32x64x64x64 [0, 1, 2, 4, 3] (Host.dotGeneral dot_S8x32x64x64x64_S64x64_S8x32x64x64x64_3_1_0124_0_n_n none (transpose S8x32x64x64x64 [0, 1, 4, 2, 3] (Host.dotGeneral dot_S8x32x64x64x64_S64x64_S8x32x64x64x64_2_1_0134_0_n_n none (Host.dotGeneral dot_S8x8_S8x32x64x64x64_S8x32x64x64x64_1_0_0_1234_n_n none C8 x) C64) transposes_S8x32x64x64x64_S8x32x64x64x64_0_1_4_2_3) C64) transposes_S8x32x64x64x64_S8x32x64x64x64_0_1_2_4_3

/-- The crop to the low frequencies, and the padding of no width. -/
def cropped (y : FVec Ideal S8x32x64x64x64 .f32) : FVec Ideal S8x32x32x32x32 .f32 :=
  pad S8x32x32x32x32 ![0, 0, 0, 0, 0] ![0, 0, 0, 0, 0] ![0, 0, 0, 0, 0] (extractStridedSlice S8x32x32x32x32 ![0, 0, 0, 0, 0] y slices_S8x32x64x64x64_S8x32x32x32x32_0_0_0_0_0) (sitofp .f32 (constantI S_ 32 0#32)) pads_S8x32x32x32x32_S8x32x32x32x32_000_000_000_000_000 h_S_

/-- The inverse transforms along batch, depth and height. -/
def inverted (z : FVec Ideal S8x32x32x32x32 .f32) : FVec Ideal S8x32x32x32x32 .f32 :=
  transpose S8x32x32x32x32 [0, 1, 2, 4, 3] (Host.dotGeneral dot_S8x32x32x32x32_S32x32_S8x32x32x32x32_3_0_0124_1_n_n none (transpose S8x32x32x32x32 [0, 1, 4, 2, 3] (Host.dotGeneral dot_S8x32x32x32x32_S32x32_S8x32x32x32x32_2_0_0134_1_n_n none (Host.dotGeneral dot_S8x8_S8x32x32x32x32_S8x32x32x32x32_0_0_1_1234_n_n none C8 z) C32) transposes_S8x32x32x32x32_S8x32x32x32x32_0_1_4_2_3) C32) transposes_S8x32x32x32x32_S8x32x32x32x32_0_1_2_4_3

/-- Entries of the reference's matrix of size 8. -/
theorem C8_apply (k n : Fin 8) : C8 (ix2 k n) = ((dct 8 k n : ℝ) : EReal) :=
  table_apply 8 _ _ _ _ _ _ _ (by decide) (by decide) (by decide) _ _ _
    (by simp [Ideal.ofBits, Ideal.ieee, -EReal.coe_mul]; norm_num) (by simp [Ideal.ofBits, Ideal.ieee, -EReal.coe_mul]; norm_num)
    (by simp [Ideal.ofBits, Ideal.ieee, -EReal.coe_mul]; norm_num) k n

/-- Entries of the reference's matrix of size 32. -/
theorem C32_apply (k n : Fin 32) : C32 (ix2 k n) = ((dct 32 k n : ℝ) : EReal) :=
  table_apply 32 _ _ _ _ _ _ _ (by decide) (by decide) (by decide) _ _ _
    (by simp [Ideal.ofBits, Ideal.ieee, -EReal.coe_mul]; norm_num) (by simp [Ideal.ofBits, Ideal.ieee, -EReal.coe_mul]; norm_num)
    (by simp [Ideal.ofBits, Ideal.ieee, -EReal.coe_mul]; norm_num) k n

/-- Entries of the reference's matrix of size 64. -/
theorem C64_apply (k n : Fin 64) : C64 (ix2 k n) = ((dct 64 k n : ℝ) : EReal) :=
  table_apply 64 _ _ _ _ _ _ _ (by decide) (by decide) (by decide) _ _ _
    (by simp [Ideal.ofBits, Ideal.ieee, -EReal.coe_mul]; norm_num) (by simp [Ideal.ofBits, Ideal.ieee, -EReal.coe_mul]; norm_num)
    (by simp [Ideal.ofBits, Ideal.ieee, -EReal.coe_mul]; norm_num) k n

/-- An entry of the spectrum as nested sums. -/
theorem spectrum_apply (x : FVec Ideal S8x32x64x64x64 .f32) (q : Fin 8) (c : Fin 32) (r p w : Fin 64) :
    spectrum x (ix5 q c r p w)
      = ∑ h : Fin 64, (∑ d : Fin 64, (∑ b : Fin 8, C8 (ix2 q b) * x (ix5 b c d h w)) * C64 (ix2 r d)) * C64 (ix2 p h) := by
  pointwise [spectrum]

/-- The crop keeps the leading entries. -/
theorem cropped_apply (y : FVec Ideal S8x32x64x64x64 .f32) (q : Fin 8) (c : Fin 32) (r p w : Fin 32) :
    cropped y (ix5 q c r p w) = y (ix5 q c ⟨r, by omega⟩ ⟨p, by omega⟩ ⟨w, by omega⟩) := by
  pointwise [cropped]

/-- An entry of the inverse transform as nested sums. -/
theorem inverted_apply (z : FVec Ideal S8x32x32x32x32 .f32) (n : Fin 8) (c : Fin 32) (k l w : Fin 32) :
    inverted z (ix5 n c k l w)
      = ∑ p : Fin 32, (∑ r : Fin 32, (∑ q : Fin 8, C8 (ix2 q n) * z (ix5 q c r p w)) * C32 (ix2 r k)) * C32 (ix2 p l) := by
  pointwise [inverted]

/-- The reference on an array of finite values, entry by entry: the forward and inverse transforms as nested real sums. -/
theorem inverted_cropped_spectrum (x : FVec Ideal S8x32x64x64x64 .f32) (v : S8x32x64x64x64.Idx → ℝ)
    (hx : ∀ i, x i = ((v i : ℝ) : EReal)) (n : Fin 8) (c : Fin 32) (k l w : Fin 32) :
    inverted (cropped (spectrum x)) (ix5 n c k l w)
      = ((∑ p : Fin 32, dct 32 p l * ∑ r : Fin 32, dct 32 r k * ∑ q : Fin 8, dct 8 q n *
          ∑ h : Fin 64, dct 64 p h * ∑ d : Fin 64, dct 64 r d * ∑ b : Fin 8, dct 8 q b * v (ix5 b c d h ⟨w, by omega⟩) : ℝ) : EReal) := by
  simp only [inverted_apply, cropped_apply, spectrum_apply, C8_apply, C32_apply, C64_apply, hx, coe_sum_mul]
  simp only [mul_comm]

set_option maxRecDepth 8192 in
/-- The reference's run: its result is the composed transforms of its argument, which is kept. -/
theorem run_spectrum (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v149)
          = inverted (cropped (spectrum (m ((c.tc : Thread nD τ).loc main_arg0))))
      ∧ r.2.mem ((c.tc : Thread nD τ).loc main_arg0) = m ((c.tc : Thread nD τ).loc main_arg0) :=
  run m ρ

end Cert.ReferenceIdeal.Value

end
-- ==== Proof.Block.lean ====
/- What one grid point's body computes: for each of its eight slabs, the matrix along height then the matrix along depth. -/
module

public import proofs.«01_k».proof.Proof.RefValue
public import proofs.«01_k».proof.Proof.Gen.KernelIdeal.Frame
public import Idealize.ShloMosaic.Lib.Pipeline.Value
public import Idealize.ShloMosaic.Lib.Pipeline.ValueKit.Tiles

@[expose] public section

noncomputable section

namespace Cert.KernelIdeal.Value

open Cert.KernelIdeal Cert.KernelIdeal.Gen Idealize.ShloMosaic Idealize.ShloMosaic.TcCoe Idealize.SL.Sem

/-- The 64 depth slices of a slab, one under another, restricted to the low half of the width. -/
def rows (z : Vec Ideal S1x64x64x64 .f32) : FVec Ideal S4096x32 .f32 :=
  extractStridedSlice S4096x32 ![0, 0]
    (shapeCast S4096x64 (shapeCast S64x64x64 z shapeCasts_S1x64x64x64_S64x64x64) shapeCasts_S64x64x64_S4096x64)
    slices_S4096x64_o0_0_S4096x32

/-- Depth slice `d` lies within the stacked rows. -/
theorem rows_slices (d : Fin 64) : S4096x32.Slices ![64 * (d : ℕ), 0] S64x32 :=
  ⟨rfl, fun a => by
    have hd := d.2
    fin_cases a
    · show 64 * (d : ℕ) + 64 ≤ 4096; omega
    · show 0 + 32 ≤ 32; omega⟩

/-- The matrix times depth slice `d` of the stacked rows. -/
def heightProduct (A : FVec Ideal S32x64 .f32) (X : FVec Ideal S4096x32 .f32) (d : Fin 64) : FVec Ideal S32x32 .f32 :=
  matmul dot_S32x64_S64x32_S32x32_1_0_0_1_n_n none A (extractStridedSlice S64x32 ![64 * (d : ℕ), 0] X (rows_slices d))
    (constant S32x32 .f32 0x00000000#32)

/-- The 64 products laid one under another. -/
def stacked (A : FVec Ideal S32x64 .f32) (X : FVec Ideal S4096x32 .f32) : FVec Ideal S2048x32 .f32 :=
  concatenate S2048x32 0 (List.ofFn fun d : Fin 64 => (⟨S32x32, heightProduct A X d⟩ : (s : Shape) × (s.Idx → Ideal .f32)))
    concatenates_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S32x32_S2048x32_d0

/-- What the body stores for one slab: the stacked products, then the matrix along depth. -/
def slab (A : FVec Ideal S32x64 .f32) (z : Vec Ideal S1x64x64x64 .f32) : FVec Ideal S1x32x32x32 .f32 :=
  shapeCast S1x32x32x32 (matmul dot_S32x64_S64x32x32_S32x32x32_1_0_0_12_n_n none A
    (shapeCast S64x32x32 (stacked A (rows z)) shapeCasts_S2048x32_S64x32x32) (constant S32x32x32 .f32 0x00000000#32))
    shapeCasts_S32x32x32_S1x32x32x32

/-- The rectangle of row `g` of the input block. -/
theorem in_row (g : Fin 8) : ∀ a, (![(g : ℕ), 0, 0, 0] : Fin 4 → ℕ) a + S1x64x64x64.size a ≤ S8x64x64x64.size a := fun a => by
  have hg := g.2
  fin_cases a
  · show (g : ℕ) + 1 ≤ 8; omega
  all_goals exact le_of_eq (Nat.zero_add 64)

/-- The rectangle of row `g` of the output block. -/
theorem out_row (g : Fin 8) : ∀ a, (![(g : ℕ), 0, 0, 0] : Fin 4 → ℕ) a + S1x32x32x32.size a ≤ S8x32x32x32.size a := fun a => by
  have hg := g.2
  fin_cases a
  · show (g : ℕ) + 1 ≤ 8; omega
  all_goals exact le_of_eq (Nat.zero_add 32)

/-- The piece the body stores in row `g`. -/
def piece (x0 : Vec Ideal S32x64 .f32) (x1 : Vec Ideal S8x64x64x64 .f32) (g : Fin 8) : View.Piece (Elt Ideal) S8x32x32x32 .f32 :=
  ⟨Rect.unit (s := S8x32x32x32) ![(g : ℕ), 0, 0, 0] S1x32x32x32.size (out_row g),
    slab (shapeCast S32x64 (View.ld x0 r0_0) shapeCasts_S32x64_S32x64)
      (View.ld x1 (Rect.unit (s := S8x64x64x64) ![(g : ℕ), 0, 0, 0] S1x64x64x64.size (in_row g)))⟩

set_option maxRecDepth 20000 in
set_option maxHeartbeats 4000000 in
/-- The body's eight stores are the pieces of the eight rows, last first. -/
theorem out_eq_pieces (x0 : Vec Ideal S32x64 .f32) (x1 : Vec Ideal S8x64x64x64 .f32) :
    out0_2 x0 x1 = View.canon (List.ofFn fun i : Fin 8 => piece x0 x1 i.rev) := by
  unfold_out out0_2
  rfl

/-- Row `d` of the stacked rows read at height `h`. -/
theorem rows_apply (z : Vec Ideal S1x64x64x64 .f32) (d : Fin 64) (h : Fin 64) (w : Fin 32) (hr : 64 * (d : ℕ) + h < 4096) :
    rows z (ix2 ⟨64 * (d : ℕ) + h, hr⟩ w) = z (ix4 0 d h ⟨w, by omega⟩) := by
  pointwise [rows]

/-- One product: the matrix contracted with the height of depth slice `d`. -/
theorem heightProduct_apply (A : FVec Ideal S32x64 .f32) (z : Vec Ideal S1x64x64x64 .f32) (d : Fin 64) (l w : Fin 32) :
    heightProduct A (rows z) d (ix2 l w) = ∑ h : Fin 64, A (ix2 l h) * z (ix4 0 d h ⟨w, by omega⟩) := by
  pointwise [heightProduct]
  exact Finset.sum_congr rfl fun h _ => by rw [rows_apply]

/-- The stacked products at a row: the product that row falls in. -/
theorem stacked_apply (A : FVec Ideal S32x64 .f32) (X : FVec Ideal S4096x32 .f32) (d : Fin 64) (l w : Fin 32)
    (hr : (d : ℕ) * 32 + l < 2048) : stacked A X (ix2 ⟨(d : ℕ) * 32 + l, hr⟩ w) = heightProduct A X d (ix2 l w) := by
  have hl := l.2
  refine concatenate_ofFn_apply (t := S2048x32) 0 (heightProduct A X) _ rfl 32 rfl _ d ?_ (ix2 l w) ?_ ?_
  · show ((d : ℕ) * 32 + l) / 32 = d; omega
  · show (l : ℕ) = ((d : ℕ) * 32 + l) % 32; omega
  · intro b hb
    fin_cases b
    · exact absurd rfl hb
    · rfl

/-- One stored slab: the matrix along depth of the matrix along height. -/
theorem slab_apply (A : FVec Ideal S32x64 .f32) (z : Vec Ideal S1x64x64x64 .f32) (u : Fin 1) (k l w : Fin 32) :
    slab A z (ix4 u k l w) = ∑ d : Fin 64, A (ix2 k d) * ∑ h : Fin 64, A (ix2 l h) * z (ix4 0 d h ⟨w, by omega⟩) := by
  pointwise [slab]
  exact Finset.sum_congr rfl fun d _ => by rw [stacked_apply, heightProduct_apply]

/-- The output block of a matrix and an input block, by coordinates. -/
def block (A : FVec Ideal S32x64 .f32) (X : FVec Ideal S8x64x64x64 .f32) (g : Fin 8) (k l w : Fin 32) : EReal :=
  ∑ d : Fin 64, A (ix2 k d) * ∑ h : Fin 64, A (ix2 l h) * X (ix4 g d h ⟨w, by omega⟩)

/-- The slab stored in row `g` is that row of the output block. -/
theorem piece_apply (x0 : Vec Ideal S32x64 .f32) (x1 : Vec Ideal S8x64x64x64 .f32) (g : Fin 8) (u : Fin 1) (k l w : Fin 32) :
    (piece x0 x1 g).2 (ix4 u k l w) = block x0 x1 g k l w := by
  refine (slab_apply _ _ u k l w).trans (Finset.sum_congr rfl fun d _ => ?_)
  have hA : ∀ a b, shapeCast S32x64 (View.ld x0 r0_0) shapeCasts_S32x64_S32x64 (ix2 a b) = x0 (ix2 a b) := fun a b => by
    pointwise [r0_0]
  rw [hA]
  refine congrArg _ (Finset.sum_congr rfl fun h _ => ?_)
  rw [hA]
  refine congrArg _ (congrArg x1 (funext fun a => Fin.ext ?_))
  refine (Rect.idx_unit_val _ _ _ _ a).trans ?_
  fin_cases a
  · rfl
  all_goals exact Nat.zero_add _

/-- The whole output block: row `g` at `(k, l, w)` is the matrix along depth and height of row `g` of the input block. -/
theorem out_apply (x0 : Vec Ideal S32x64 .f32) (x1 : Vec Ideal S8x64x64x64 .f32) (g : Fin 8) (k l w : Fin 32) :
    out0_2 x0 x1 (ix4 g k l w) = block x0 x1 g k l w := by
  rw [out_eq_pieces]
  refine View.canon_apply_of_pieces (Val := Elt Ideal) (fun y : S8x32x32x32.Idx => block x0 x1 (y 0) (y 1) (y 2) (y 3)) _ (fun p hp x => ?_) _
    ⟨piece x0 x1 g, (List.mem_ofFn (f := fun i : Fin 8 => piece x0 x1 i.rev)).2 ⟨g.rev, congrArg (piece x0 x1) (Fin.rev_rev g)⟩, ?_⟩
  · obtain ⟨i, rfl⟩ := List.mem_ofFn.1 hp
    obtain ⟨u, k', l', w', rfl⟩ : ∃ u k' l' w', x = ix4 u k' l' w' :=
      ⟨x 0, x 1, x 2, x 3, funext fun a => by fin_cases a <;> rfl⟩
    refine (piece_apply x0 x1 i.rev u k' l' w').trans ?_
    have hu := u.2
    congr 1 <;> refine Fin.ext ((Rect.idx_unit_val _ _ (out_row i.rev) _ _).trans ?_).symm
    · show (i.rev : ℕ) + u = i.rev; omega
    all_goals exact Nat.zero_add _
  · refine (Rect.mem_set_unit (s := S8x32x32x32) (inb := out_row g)).2 fun a => by
      fin_cases a
      · exact ⟨le_rfl, Nat.lt_succ_self _⟩
      · exact ⟨Nat.zero_le _, by show (k : ℕ) < 0 + 32; omega⟩
      · exact ⟨Nat.zero_le _, by show (l : ℕ) < 0 + 32; omega⟩
      · exact ⟨Nat.zero_le _, by show (w : ℕ) < 0 + 32; omega⟩

end Cert.KernelIdeal.Value

end
-- ==== Proof.Entry.lean ====
/- What the launch's arrays hold when the region starts: the resampling matrix, and the argument with batch and channel joined. -/
module

public import proofs.«01_k».proof.Proof.Block
public import Idealize.ShloMosaic.Lib.Claim

@[expose] public section

noncomputable section

namespace Cert.KernelIdeal.Value

open Cert.Resample Cert.KernelIdeal Cert.KernelIdeal.Gen Idealize.ShloMosaic Idealize.ShloMosaic.TcCoe Idealize.SL.Sem

/-- The launch's matrix of size 32. -/
def D32 : FVec Ideal S32x32 .f32 :=
  table 32 bcast_S32_S32x1_0 bcast_S32_S1x32_1 bcast_S32x1_S32x32_0_1 bcast_S1x32_S32x32_0_1 bcast_S_S32 bcast_S_S32x1
    bcast_S_S32x32 0x42000000#32 0x3D000000#32 0x3D800000#32

/-- The launch's matrix of size 64. -/
def D64 : FVec Ideal S64x64 .f32 :=
  table 64 bcast_S64_S64x1_0 bcast_S64_S1x64_1 bcast_S64x1_S64x64_0_1 bcast_S1x64_S64x64_0_1 bcast_S_S64 bcast_S_S64x1
    bcast_S_S64x64 0x42800000#32 0x3C800000#32 0x3D000000#32

/-- The array the launch stages as the resampling matrix: the sum over `j` of the products of the two matrices' rows `j`. -/
def matrix : FVec Ideal S32x64 .f32 :=
  Host.reduceAdd
    (mulf (broadcastInDim S32x32x64 ![0, 1, 2] bcast_S32x32x1_S32x32x64_0_1_2 (broadcastInDim S32x32x1 ![0, 1] bcast_S32x32_S32x32x1_0_1 D32))
      (broadcastInDim S32x32x64 ![0, 1, 2] bcast_S32x1x64_S32x32x64_0_1_2
        (broadcastInDim S32x1x64 ![0, 2] bcast_S32x64_S32x1x64_0_2 (extractStridedSlice S32x64 ![0, 0] D64 slices_S64x64_S32x64_0_0))))
    (constant S_ .f32 0x00000000#32) reducesTo_S32x32x64_S32x64_d0 h_S_

/-- Entries of the launch's matrix of size 32. -/
theorem D32_apply (k n : Fin 32) : D32 (ix2 k n) = ((dct 32 k n : ℝ) : EReal) := Cert.ReferenceIdeal.Value.C32_apply k n

/-- Entries of the launch's matrix of size 64. -/
theorem D64_apply (k n : Fin 64) : D64 (ix2 k n) = ((dct 64 k n : ℝ) : EReal) := Cert.ReferenceIdeal.Value.C64_apply k n

/-- Entries of the staged matrix: the composed resample of one axis. -/
theorem matrix_apply (k : Fin 32) (d : Fin 64) : matrix (ix2 k d) = ((resample k d : ℝ) : EReal) := by
  unfold matrix
  pointwise [D32_apply]
  exact (Finset.sum_congr rfl fun (j : Fin 32) _ => congrArg _ (D64_apply ⟨j, by omega⟩ d)).trans (coe_sum_mul _ _)

variable (m : (ℓ : Loc nD τ sig) → Buf (Elt Ideal) ℓ)

/-- The staged input array is the argument with batch and channel joined into one axis. -/
theorem entry_input (c : Dev nD) :
    V m c main_v0 = shapeCast S256x64x64x64 (m ((c : Thread nD τ).loc main_arg0)) shapeCasts_S8x32x64x64x64_S256x64x64x64 := by
  simp only [V, V0, hostOps0, hostOps0_1, hostOps0_2, hostOps0_3, hostOps0_4, List.flatten_cons, List.flatten_nil, List.append_nil,
    List.cons_append, List.nil_append]
  entry_read
  rfl

set_option maxRecDepth 4000 in
/-- The staged matrix array is `matrix`. -/
theorem entry_matrix (c : Dev nD) : V m c main_v53 = matrix := by
  simp only [V, V0, hostOps0, hostOps0_1, hostOps0_2, hostOps0_3, hostOps0_4, List.flatten_cons, List.flatten_nil, List.append_nil,
    List.cons_append, List.nil_append]
  entry_read
  rfl

end Cert.KernelIdeal.Value

end
-- ==== Proof.Array.lean ====
/- The output array of a run of the launch, index by index, in terms of the argument. -/
module

public import proofs.«01_k».proof.Proof.Entry
public import Idealize.ShloMosaic.Lib.Pipeline.ValueKit

@[expose] public section

noncomputable section

namespace Cert.KernelIdeal.Value

open Cert.Resample Cert.KernelIdeal Cert.KernelIdeal.Gen Idealize.ShloMosaic Idealize.ShloMosaic.TcCoe Idealize.SL.Sem

variable (m : (ℓ : Loc nD τ sig) → Buf (Elt Ideal) ℓ)

/-- The whole output array of a matrix and an input array. -/
def whole (A : FVec Ideal S32x64 .f32) (X : FVec Ideal S256x64x64x64 .f32) : FVec Ideal S256x32x32x32 .f32 := fun y =>
  ∑ d : Fin 64, A (ix2 (y 1) d) * ∑ h : Fin 64, A (ix2 (y 2) h) * X (ix4 (y 0) d h ⟨y 3, lt_trans (y 3).2 (by decide)⟩)

/-- The three windows' block indices at each grid point: the matrix whole, and the point's eight rows of input and output. -/
theorem block_index : ∀ t : Fin cfg0.N, win0_0.index t = ![0, 0] ∧ win0_1.index t = ![(t : ℕ), 0, 0, 0] ∧ win0_2.index t = ![(t : ℕ), 0, 0, 0] :=
  (by decide +kernel : ∀ t : Fin grid0.N, win0_0.index t = ![0, 0] ∧ win0_1.index t = ![(t : ℕ), 0, 0, 0] ∧ win0_2.index t = ![(t : ℕ), 0, 0, 0])

/-- The matrix's block at a grid point is the matrix. -/
theorem read_matrix (t : Fin cfg0.N) (A : FVec Ideal S32x64 .f32) (a : Fin 32) (b : Fin 64) :
    ((cfg0.win 0).blk t).view.read (Elt Ideal) A (ix2 a b) = A (ix2 a b) := by
  obtain ⟨h0, h1, h2⟩ := block_index t
  blk_ext [h0]

/-- Row `g` of the input's block at point `t` is row `8t + g` of the input array. -/
theorem read_input (t : Fin cfg0.N) (X : FVec Ideal S256x64x64x64 .f32) (g : Fin 8) (d h w : Fin 64) (hr : 8 * (t : ℕ) + g < 256) :
    ((cfg0.win 1).blk t).view.read (Elt Ideal) X (ix4 g d h w) = X (ix4 ⟨8 * (t : ℕ) + g, hr⟩ d h w) := by
  obtain ⟨h0, h1, h2⟩ := block_index t
  blk_ext [h1]

/-- Row `g` of the output's block at point `t` lies in row `8t + g` of the output array. -/
theorem place_output (t : Fin cfg0.N) (g : Fin 8) (k l w : Fin 32) (hr : 8 * (t : ℕ) + g < 256) :
    (win0_2.blk t).view.emb (ix4 g k l w) = (ix4 ⟨8 * (t : ℕ) + g, hr⟩ k l w : S256x32x32x32.Idx) := by
  obtain ⟨h0, h1, h2⟩ := block_index t
  blk_ext [h2]

/-- After the last grid point the output array is `whole` of the two staged arrays. -/
theorem array_eq (c : Dev nD) : (dats m 0 c).arrAt 2 (cfgs 0).N = whole (V m c main_v53) (V m c main_v0) := by
  refine (dats m 0 c).arrAt_eq_of_covers 2 _ (by decide +kernel) fun t hf y => ?_
  blk_simp
  rw [after0_2]
  obtain ⟨g, k, l, w, rfl⟩ : ∃ (g : Fin 8) (k l w : Fin 32), y = ix4 g k l w :=
    ⟨y 0, y 1, y 2, y 3, funext fun a => by fin_cases a <;> rfl⟩
  have hr : 8 * (t : ℕ) + g < 256 := by
    have ht : (t : ℕ) < 32 := N_0 ▸ t.2
    omega
  rw [place_output t g k l w hr]
  refine (out_apply _ _ g k l w).trans ?_
  refine Finset.sum_congr rfl fun d _ => congrArg₂ (· * ·) (read_matrix t _ k d) ?_
  exact Finset.sum_congr rfl fun h _ => congrArg₂ (· * ·) (read_matrix t _ l h) (read_input t _ g d h _ hr)

end Cert.KernelIdeal.Value

end
-- ==== Proof.Result.lean ====
/- The kernel's run and its result, and that it is the reference's result on finite arguments. -/
module

public import proofs.«01_k».proof.Proof.Array

@[expose] public section

noncomputable section

namespace Cert.KernelIdeal.Value

open Cert.Resample Cert.KernelIdeal Cert.KernelIdeal.Gen Idealize.ShloMosaic Idealize.ShloMosaic.TcCoe Idealize.SL.Sem

/-- The kernel's result of an argument: the two matrix products over joined batch and channel, split apart again. -/
def result (x : FVec Ideal S8x32x64x64x64 .f32) : FVec Ideal S8x32x32x32x32 .f32 :=
  shapeCast S8x32x32x32x32 (whole matrix (shapeCast S256x64x64x64 x shapeCasts_S8x32x64x64x64_S256x64x64x64))
    shapeCasts_S256x32x32x32_S8x32x32x32x32

variable (m : (ℓ : Loc nD τ sig) → Buf (Elt Ideal) ℓ) (ρ : Dev nD → PrngReg)

/-- The output array after the launch is the two matrix products of the argument. -/
theorem array_of_argument (c : Dev nD) : (dats m 0 c).arrAt 2 (cfgs 0).N =
    whole matrix (shapeCast S256x64x64x64 (m ((c : Thread nD τ).loc main_arg0)) shapeCasts_S8x32x64x64x64_S256x64x64x64) := by
  rw [array_eq, entry_matrix, entry_input]

/-- The last host operation splits the output array's joined axis: the returned buffer holds `result` of the argument. -/
theorem tail_result (c : Dev nD) : Pipeline.afterTail₀ cfgs (dats m) 0 (V0 m) [hostOps1] c main_v55 =
    result (m ((c : Thread nD τ).loc main_arg0)) := by
  have e := Pipeline.withArrays_arr spec0 launch0.win.arr_inj c (V0 m c) (fun w => (dats m 0 c).arrAt w (cfgs 0).N) 2
  unfold Pipeline.afterTail₀ result
  rw [← array_of_argument]
  simp only [hostOps1, List.flatten_cons, List.flatten_nil, List.append_nil]
  after_results
  exact congrArg (fun X => shapeCast S8x32x32x32x32 X shapeCasts_S256x32x32x32_S8x32x32x32x32) e

/-- Every run of the kernel returns `result` of the argument, and leaves the argument as it was. -/
theorem run_result : θ_run defs (onTc (τ := τ) (main (F := Ideal))) ⟨m, fun _ => 0, ρ⟩ fun r => ∀ c : Dev nD,
    r.2.mem ((c.tc : Thread nD τ).loc main_v55) = result (m ((c : Thread nD τ).loc main_arg0))
    ∧ r.2.mem ((c.tc : Thread nD τ).loc main_arg0) = m ((c : Thread nD τ).loc main_arg0) :=
  (θ_run defs _ _).mono (fun _ h c =>
      ⟨((h c).2 main_v55 (Pipeline.mem_restRefs_of main_v55 (by decide) (by decide))).trans (tail_result m c),
        ((h c).2 main_arg0 (Pipeline.mem_restRefs_of main_arg0 (by decide) (by decide))).trans (W_main_arg0 m (dats m) c)⟩)
    (run_main m ρ)

/-- The kernel's result by coordinates. -/
theorem result_apply (x : FVec Ideal S8x32x64x64x64 .f32) (n : Fin 8) (c k l w : Fin 32) :
    result x (ix5 n c k l w) = ∑ d : Fin 64, matrix (ix2 k d) * ∑ h : Fin 64, matrix (ix2 l h) * x (ix5 n c d h ⟨w, by omega⟩) := by
  pointwise [result, whole]

/-- On finite arguments the kernel's result is the reference's. -/
theorem result_eq_reference (x : FVec Ideal S8x32x64x64x64 .f32) (v : S8x32x64x64x64.Idx → ℝ)
    (hx : ∀ i, x i = ((v i : ℝ) : EReal)) :
    result x = Cert.ReferenceIdeal.Value.inverted (Cert.ReferenceIdeal.Value.cropped (Cert.ReferenceIdeal.Value.spectrum x)) := by
  funext y
  obtain ⟨n, c, k, l, w, rfl⟩ : ∃ (n : Fin 8) (c k l w : Fin 32), y = ix5 n c k l w :=
    ⟨y 0, y 1, y 2, y 3, y 4, funext fun a => by fin_cases a <;> rfl⟩
  rw [Cert.ReferenceIdeal.Value.inverted_cropped_spectrum x v hx,
    ← resample_eq (fun b d h => v (ix5 b c d h ⟨w, by omega⟩)) n k l, result_apply]
  simp only [matrix_apply, hx, coe_sum_mul]

end Cert.KernelIdeal.Value

end
-- ==== Proof.Finite.lean ====
/- The precondition: every element of the argument lies strictly between the two infinities, so it is a real number. -/
module

public import proofs.«01_k».proof.Proof.Result
public import proofs.«01_k».proof.Defs

@[expose] public section

noncomputable section

namespace Cert.Proof

open Idealize.ShloMosaic Idealize.SL.Sem

/-- The shape fact the precondition's text states. -/
instance finite_facts : Cert.Pre_finite.Facts where
  bcast_S_S8x32x64x64x64 := by decide

/-- An array that the precondition accepts is an array of real numbers. -/
theorem real_of_finite (x : FVec Ideal Cert.Pre_finite.S8x32x64x64x64 .f32)
    (h : Cert.Pre_finite.fn (F := Ideal) x = fun _ => 1#1) (i : Cert.Pre_finite.S8x32x64x64x64.Idx) :
    x i = (((x i).toReal : ℝ) : EReal) := by
  have hi := congrFun h i
  have hlo : Ideal.ofBits .f32 0xFF800000#32 = ⊥ := by simp [Ideal.ofBits, Ideal.ieee]
  have hhi : Ideal.ofBits .f32 0x7F800000#32 = ⊤ := by simp [Ideal.ofBits, Ideal.ieee]
  simp only [Cert.Pre_finite.fn] at hi
  pointwise [] at hi
  rw [hlo, hhi] at hi
  have hb : ∀ a b : Bool, IntOp.andi (BitVec.ofBool a) (BitVec.ofBool b) = 1#1 → a = true ∧ b = true := by decide
  obtain ⟨h1, h2⟩ := hb _ _ hi
  exact (EReal.coe_toReal (of_decide_eq_true h2).ne (of_decide_eq_true h1).ne').symm

end Cert.Proof

end
-- ==== Proof.lean ====
/- The certificate: the runs of the kernel and the reference, and the equality of their results on finite arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem

/-- Every run of the reference keeps its argument and ends with every counter at zero: the program has no semaphore. -/
theorem reference_quiescent
    (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono (fun r h => ⟨fun c => (h c).2, sem_eq_zero_of_no_sems (by decide) r.2⟩)
    (Cert.ReferenceIdeal.Value.run_spectrum m g)

/-- On finite arguments the kernel and the reference return equal results. -/
theorem algebraic : Cert.algebraic_KernelIdeal_ReferenceIdeal_pre_finite := by
  intro m g m' g' hpre harg
  refine ⟨fun c => Cert.KernelIdeal.Value.result (m ((c.tc : Thread Cert.KernelIdeal.nD Cert.KernelIdeal.τ).loc Cert.KernelIdeal.main_arg0)),
    Cert.KernelIdeal.Value.run_result m g, ?_⟩
  refine (θ_run Cert.ReferenceIdeal.defs _ _).mono (fun r h c => ⟨(h c).1.trans ?_, (h c).2⟩)
    (Cert.ReferenceIdeal.Value.run_spectrum m' g')
  rw [harg c]
  exact (Cert.KernelIdeal.Value.result_eq_reference _ _ (real_of_finite _ (hpre c))).symm

/-- Every claim of the certificate holds. -/
theorem claim : Cert.Claim :=
  ⟨Cert.Kernel.Gen.facts, Cert.KernelIdeal.Gen.facts, Cert.ReferenceIdeal.Gen.facts, finite_facts,
    fun m g _ => Cert.Kernel.Gen.frame m g,
    fun m g _ => Cert.KernelIdeal.Gen.frame m g,
    fun m g _ => Cert.KernelIdeal.Gen.frame m g,
    fun m g _ => reference_quiescent m g,
    fun m g _ => reference_quiescent m g,
    trivial,
    algebraic⟩

end Cert.Proof

end
